-- ==== Defs.lean ====
def Pre_Kernel [hPre_layer_in_range : Cert.Pre_layer_in_range.Facts] (m : (ℓ : Loc Cert.Kernel.nD Cert.Kernel.τ Cert.Kernel.sig) → Buf (Elt Bits) ℓ) : Prop :=
  ∀ c : Dev Cert.Kernel.nD,
    (Cert.Pre_layer_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_layer_in_range : Cert.Pre_layer_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_layer_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_layer_in_range [hPre_layer_in_range : Cert.Pre_layer_in_range.Facts] (m : (ℓ : Loc Cert.Reference.nD Cert.Reference.τ Cert.Reference.sig) → Buf (Elt Bits) ℓ) : Prop :=
  ∀ c : Dev Cert.Reference.nD,
    (Cert.Pre_layer_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_in_range [hPre_layer_in_range : Cert.Pre_layer_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_layer_in_range : Cert.Pre_layer_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_layer_in_range : Cert.Pre_layer_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_layer_in_range [hReference : Cert.Reference.Facts] [hPre_layer_in_range : Cert.Pre_layer_in_range.Facts] : Prop :=
  ∀ (m : (ℓ : Loc Cert.Reference.nD Cert.Reference.τ Cert.Reference.sig) → Buf (Elt Bits) ℓ) (g : Dev Cert.Reference.nD → PrngReg), Pre_Reference_layer_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_layer_in_range [hReferenceIdeal : Cert.ReferenceIdeal.Facts] [hPre_layer_in_range : Cert.Pre_layer_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_layer_in_range : Cert.Pre_layer_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_layer_in_range : Cert.Pre_layer_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v11) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_layer_in_range : Cert.Pre_layer_in_range.Facts),
    quiescent_Kernel (hKernel := hKernel) (hPre_layer_in_range := hPre_layer_in_range)
    ∧ quiescent_KernelIdeal (hKernelIdeal := hKernelIdeal) (hPre_layer_in_range := hPre_layer_in_range)
    ∧ quiescent_Reference (hReference := hReference)
    ∧ quiescent_Reference_pre_layer_in_range (hReference := hReference) (hPre_layer_in_range := hPre_layer_in_range)
    ∧ quiescent_ReferenceIdeal (hReferenceIdeal := hReferenceIdeal)
    ∧ quiescent_ReferenceIdeal_pre_layer_in_range (hReferenceIdeal := hReferenceIdeal) (hPre_layer_in_range := hPre_layer_in_range)
    ∧ preserves_Kernel_KernelIdeal
    ∧ algebraic_KernelIdeal_ReferenceIdeal (hKernelIdeal := hKernelIdeal) (hReferenceIdeal := hReferenceIdeal) (hPre_layer_in_range := hPre_layer_in_range)
    ∧ bitexact_Kernel_Reference (hKernel := hKernel) (hReference := hReference) (hPre_layer_in_range := hPre_layer_in_range)
-- ==== Pre_layer_in_range.lean ====
abbrev S24x2048x2048 : Shape := ⟨3, ![24, 2048, 2048]⟩
abbrev S_ : Shape := ⟨0, ![]⟩

class Facts : Prop where

variable [Facts]

def fn {F : FTy → Type} [FloatOps F] (main_arg0 : FVec F S24x2048x2048 .f32) (main_arg1 : IVec S_ 32) : IVec S_ 1 :=
  let main_c : IVec S_ 32 := constantI S_ 32 0#32
  let main_v0 : IVec S_ 1 := cmpi .sge main_arg1 main_c
  let main_c_0 : IVec S_ 32 := constantI S_ 32 24#32
  let main_v1 : IVec S_ 1 := cmpi .slt main_arg1 main_c_0
  let main_v2 : IVec S_ 1 := andi main_v0 main_v1
  main_v2
-- ==== Kernel.lean ====
abbrev S24x2048x2048 : Shape := ⟨3, ![24, 2048, 2048]⟩
abbrev S_ : Shape := ⟨0, ![]⟩
abbrev S1 : Shape := ⟨1, ![1]⟩
abbrev S1x2048x2048 : Shape := ⟨3, ![1, 2048, 2048]⟩
abbrev S1x256x2048 : Shape := ⟨3, ![1, 256, 2048]⟩

abbrev nBuf : Space → Nat
  | .hbm => 3
  | .vmem => 4
  | .smem => 1
  | _ => 0

abbrev bufTy : (tb : Table) → Fin (tcTables nBuf tb) → BufTy
  | .hbm, ⟨0, _⟩ => ⟨S24x2048x2048, .f32⟩
  | .hbm, ⟨1, _⟩ => ⟨S_, .i32⟩
  | .hbm, ⟨2, _⟩ => ⟨S1x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .smem, ⟨0, _⟩ => ⟨S1, .i32⟩
  | _, _ => ⟨S24x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S24x2048x2048 : Shape := ⟨3, ![24, 2048, 2048]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S24x2048x2048, .f32⟩
  | .hbm, ⟨1, _⟩ => ⟨S_, .i32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x2048x2048, .f32⟩
  | .hbm, ⟨24, _⟩ => ⟨S2048x2048, .f32⟩
  | .hbm, ⟨25, _⟩ => ⟨S1x2048x2048, .f32⟩
  | _, _ => ⟨S24x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3 : Ref sig .tc := ⟨.hbm, 9, rfl⟩
abbrev main_c_3 : Ref sig .tc := ⟨.hbm, 10, rfl⟩
abbrev main_c_4 : Ref sig .tc := ⟨.hbm, 11, rfl⟩
abbrev main_v4 : Ref sig .tc := ⟨.hbm, 12, rfl⟩
abbrev main_c_5 : Ref sig .tc := ⟨.hbm, 13, rfl⟩
abbrev main_v5 : Ref sig .tc := ⟨.hbm, 14, rfl⟩
abbrev main_c_6 : Ref sig .tc := ⟨.hbm, 15, rfl⟩
abbrev main_c_7 : Ref sig .tc := ⟨.hbm, 16, rfl⟩
abbrev main_v6 : Ref sig .tc := ⟨.hbm, 17, rfl⟩
abbrev main_c_8 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== Proof.Layer.lean ====
/-
  The value that the claims are about: one layer of the memory.

  `layerAt x w` is the array of shape 1×2048×2048 that holds layer `w` of the 24×2048×2048 array `x`: its element at (0, i, j)
  is `x`'s at (w, i, j). Here are the range of the layer's index that the precondition states, decoded from its two
  comparisons, and the proof that the reference's expression (a negative index wrapped, the start clamped, a slice, its unit
  axis dropped and put back) is `layerAt x w` at such an index. Nothing here mentions a program: the kernel and the reference,
  on float words and on ideal values, all cite this one definition.
-/
module

public import Idealize.ShloMosaic.Lib.DynamicIndex
public import Idealize.ShloMosaic.Lib.Pipeline.Value
public import Idealize.ShloMosaic.Lib.StableHlo.Predicate
public import Idealize.ShloMosaic.Lib.ValueIdxCore

@[expose] public section

noncomputable section

namespace Cert.Layer

open Idealize.ShloMosaic Idealize.ShloMosaic.ValueIdx

/-- The memory's shape: 24 layers of 2048 × 2048. -/
abbrev Whole : Shape := ⟨3, ![24, 2048, 2048]⟩
/-- One layer, its layer axis kept. -/
abbrev One : Shape := ⟨3, ![1, 2048, 2048]⟩
/-- One layer without that axis. -/
abbrev Flat : Shape := ⟨2, ![2048, 2048]⟩
/-- The shape of the layer's index. -/
abbrev Scalar : Shape := ⟨0, ![]⟩

variable {α : Type}

/-- Layer `w` of the memory `x`, for any word `w`; the claims use it at words below 24, where the remainder is `w` itself. -/
def layerAt (x : Whole.Idx → α) (w : BitVec 32) : One.Idx → α :=
  fun i => x (ix3 (⟨w.toNat % 24, Nat.mod_lt _ (by decide)⟩ : Fin 24) (i 1 : Fin 2048) (i 2 : Fin 2048))

/-- The layer at an index is the memory at any index with these coordinates. -/
theorem layerAt_apply (x : Whole.Idx → α) (w : BitVec 32) (hw : w.toNat < 24) (i : One.Idx) (k : Whole.Idx)
    (h0 : (k 0).val = w.toNat) (h1 : (k 1).val = (i 1).val) (h2 : (k 2).val = (i 2).val) : layerAt x w i = x k := by
  refine congrArg x (funext fun a => Fin.ext ?_)
  match a with
  | ⟨0, _⟩ => exact (Nat.mod_eq_of_lt hw).trans h0.symm
  | ⟨1, _⟩ => exact h1.symm
  | ⟨2, _⟩ => exact h2.symm

/-! ## The range that the precondition states -/

/-- The conjunction of the two comparisons `0 ≤ w` and `w < 24`, read signed, is true only of a word below 24. -/
theorem lt_of_range (w : BitVec 32) (h : IntOp.andi (IntOp.cmpi .sge w 0#32) (IntOp.cmpi .slt w 24#32) = 1#1) : w.toNat < 24 := by
  have hand : ∀ p q : BitVec 1, p &&& q = 1#1 → p = 1#1 ∧ q = 1#1 := by decide
  obtain ⟨hge, hlt⟩ := hand _ _ h
  simp only [IntOp.cmpi, StableHlo.Predicate.ofBool_eq_one_iff, BitVec.sle, BitVec.slt, decide_eq_true_eq] at hge hlt
  have e := BitVec.toInt_eq_toNat_cond w
  have h0 : (0#32 : BitVec 32).toInt = 0 := by decide
  have h24 : (24#32 : BitVec 32).toInt = 24 := by decide
  have := w.isLt
  split at e <;> omega

/-! ## The reference's expression -/

/-- A slice of one layer at the starts (w, 0, 0), its layer axis dropped and put back, is `layerAt x w`. -/
theorem sliced_eq (x : Whole.Idx → α) (w : BitVec 32) (hw : w.toNat < 24) (start : Fin 3 → Int)
    (hs : ∀ a, start a = ((![w.toNat, 0, 0] : Fin 3 → Nat) a : Int))
    (hf : Whole.Slices (fun _ => 0) One) (hc : One.ShapeCasts Flat) (hb : Flat.BroadcastsInDim One ![1, 2]) :
    broadcastInDim One ![1, 2] hb (shapeCast Flat (Host.dynamicSlice One x start hf) hc) = layerAt x w := by
  have hoff : Whole.Slices (![w.toNat, 0, 0] : Fin 3 → Nat) One := ⟨rfl, fun a => by
    match a with
    | ⟨0, _⟩ => show w.toNat + 1 ≤ 24; omega
    | ⟨1, _⟩ => exact le_refl 2048
    | ⟨2, _⟩ => exact le_refl 2048⟩
  rw [Host.dynamicSlice_eq_extractStridedSlice One x start ![w.toNat, 0, 0] hf hoff hs]
  funext i
  refine (broadcastInDim_apply (s := Flat) (t := One) ![1, 2] hb _ i (ix2 (i 1 : Fin 2048) (i 2 : Fin 2048)) fun a => ?_).trans ?_
  · match a with
    | ⟨0, _⟩ => rfl
    | ⟨1, _⟩ => rfl
  refine (shapeCast_dropUnit_apply ![2048, 2048] _ hc _).trans ?_
  refine (extractStridedSlice_apply _ x hoff _ (ix3 (⟨w.toNat, hw⟩ : Fin 24) (i 1 : Fin 2048) (i 2 : Fin 2048)) fun a => ?_).trans ?_
  · match a with
    | ⟨0, _⟩ => rfl
    | ⟨1, _⟩ => exact (Nat.zero_add _).symm
    | ⟨2, _⟩ => exact (Nat.zero_add _).symm
  exact (layerAt_apply x w hw i _ rfl rfl rfl).symm

/-- The start that the reference computes from an index below 24 (24 added if it is negative) is the index. -/
theorem wrapped_eq (d : IVec Scalar 32) (hw : (d ix0).toNat < 24) (j : Scalar.Idx) :
    (select (cmpi .slt d (constantI Scalar 32 0#32)) (addi d (constantI Scalar 32 24#32)) d j).toInt = ((d ix0).toNat : Int) := by
  obtain rfl := eq_ix0 j
  have e : (d ix0).toInt = (d ix0).toNat := StableHlo.Predicate.toInt_eq_toNat_of_lt (by omega)
  rw [select_slt_zero_of_nonneg d _ _ ix0 (by omega), e]

end Cert.Layer

end
-- ==== Proof.KernelIdealValue.lean ====
/-
  The kernel over ideal values: what its run leaves. The text is that of `KernelValue.lean`, at the other program.

  The kernel's one table holds the layer's index. At a word below 24 every block that the index maps name lies inside the memory
  (`ok_of_range`), which is what the generated run asks. At each of the eight grid points the body copies its input block, rows
  256·t to 256·t + 255 of the layer, to the same rows of the result (`written`); the eight blocks cover the result, which is
  therefore the layer (`final_eq`).
-/
module

public import proofs.«01_k».proof.Proof.Layer
public import proofs.«01_k».proof.Proof.Gen.KernelIdeal.Frame
public import proofs.«01_k».proof.Proof.Gen.KernelIdeal.Points
public import Idealize.ShloMosaic.Lib.Pipeline.ValueKit.Acc
public import Idealize.ShloMosaic.Lib.Pipeline.ValueKit.Geometry
public import Idealize.ShloMosaic.Lib.Claim

@[expose] public section

noncomputable section

namespace Cert.KernelIdeal.Layer

open Cert.KernelIdeal Cert.KernelIdeal.Gen Cert.Layer
open Idealize.ShloMosaic Idealize.ShloMosaic.TcCoe Idealize.ShloMosaic.ValueIdx Idealize.SL.Sem

variable {F : FTy → Type} [FloatOps F]

variable (m : (ℓ : Loc nD τ sig) → Buf (Elt F) ℓ) (g : Dev nD → PrngReg)

/-- The index of the layer, as launched. -/
abbrev word (c : Dev nD) : BitVec 32 := m ((c.tc : Thread nD τ).loc main_arg1) ValueIdx.ix0

/-- The table is the index, given a unit axis. -/
theorem table_eq : tbl m 0 = broadcastInDim S1 ![] bcast_S_S1 (m (((0 : Dev nD).tc : Thread nD τ).loc main_arg1)) := by
  unfold tbl
  show StableHlo.after hostOps0 (fun b => m (0, b)) (Proc.devRef .tc main_v0) = _
  after_results
  rfl

/-- Its element is the index. -/
theorem table_at (x : S1.Idx) : tbl m 0 x = word m 0 := by
  rw [table_eq]
  exact congrArg (m _) (eq_ix0 _)

/-- The input window's block index at a point: the layer, the point, 0. -/
theorem index_in (i : grid0.Coords) :
    cc0_transform_0 inb_S1_S1_0 numel1_S1 (tbl m) i = ![(word m 0).toNat, (i 0).val, 0] := by
  have hi : (BitVec.ofNat 32 (i 0).val).toNat = (i 0).val := by
    have : (i 0).val < 8 := (i 0).isLt
    rw [BitVec.toNat_ofNat]; omega
  exact congrArg₂ (fun (p : BitVec 32) (q : Nat) => (![p.toNat, q, 0] : Fin 3 → Nat)) (table_at m _) hi

/-- The output window's block index at a point: 0, the point, 0. -/
theorem index_out (i : grid0.Coords) : cc0_transform_1 i = ![0, (i 0).val, 0] := by
  have hi : (BitVec.ofNat 32 (i 0).val).toNat = (i 0).val := by
    have : (i 0).val < 8 := (i 0).isLt
    rw [BitVec.toNat_ofNat]; omega
  show ![0, (BitVec.ofNat 32 (i 0).val).toNat, 0] = _
  rw [hi]

/-- At an index below 24 every block lies inside the memory. -/
theorem ok_of_range (hw : (word m 0).toNat < 24) : Ok m := by
  unfold Ok ok0
  refine fun i => ⟨fun a => ?_, .inl rfl⟩
  have hi : (i 0).val < 8 := (i 0).isLt
  rw [index_in]
  match a with
  | ⟨0, _⟩ => show ((word m 0).toNat + 1) * 1 ≤ 24; omega
  | ⟨1, _⟩ => show ((i 0).val + 1) * 256 ≤ 2048; omega
  | ⟨2, _⟩ => show (0 + 1) * 2048 ≤ 2048; omega

variable (hO : Ok m)

/-- The body leaves its input block in its output block. -/
theorem written (c : Dev nD) (t : Fin (cfgM m hO).N) : outsAt0 m hO c t = iblk m hO c 0 t := by
  unfold outsAt0
  frame_out
  exact (hs0_0 m hO t).read_unread _

/-- Where an index of the input's block at a point lies in the memory. -/
theorem in_at (t : Fin (cfgM m hO).N) (y : S1x256x2048.Idx) (a : Fin 3) :
    ((((cfgM m hO).win 0).blk t).view.emb y a).val
      = (![(word m 0).toNat, ((cfgM m hO).grid.coords t 0).val, 0] : Fin 3 → Nat) a * S1x256x2048.size a + (y a).val :=
  (((cfgM m hO).win 0).rect_emb_val t y a rfl).trans
    (congrArg (fun f : Fin 3 → Nat => f a * S1x256x2048.size a + (y a).val) (index_in m ((cfgM m hO).grid.coords t)))

/-- Where an index of the output's block at a point lies in the result. -/
theorem out_at (t : Fin (cfgM m hO).N) (y : S1x256x2048.Idx) (a : Fin 3) :
    ((((cfgM m hO).win 1).blk t).view.emb y a).val
      = (![0, ((cfgM m hO).grid.coords t 0).val, 0] : Fin 3 → Nat) a * S1x256x2048.size a + (y a).val :=
  (((cfgM m hO).win 1).rect_emb_val t y a rfl).trans
    (congrArg (fun f : Fin 3 → Nat => f a * S1x256x2048.size a + (y a).val) (index_out ((cfgM m hO).grid.coords t)))

/-- The one coordinate of a point of the grid is its number. -/
theorem coord_eq : ∀ t : Fin grid0.N, (grid0.coords t 0).val = t.val := by decide +kernel

/-- Every index of the result lies in the block that some point writes back: row `r` in that of point `r / 256`. -/
theorem covered (i : S1x2048x2048.Idx) :
    ∃ t : Fin (cfgM m hO).N, ((cfgM m hO).win 1).flush t = true ∧ i ∈ (((cfgM m hO).win 1).blk t).view.set := by
  have h0 : (i 0).val < 1 := (i 0).isLt
  have h1 : (i 1).val < 2048 := (i 1).isLt
  have h2 : (i 2).val < 2048 := (i 2).isLt
  let t : Fin grid0.N := ⟨(i 1).val / 256, by rw [N_0]; omega⟩
  have ht : (grid0.coords t 0).val = (i 1).val / 256 := coord_eq t
  refine ⟨t, flush0_1 (adm m hO) t, (((cfgM m hO).win 1).emb_mem_blk_iff t i rfl).mpr fun a => ?_⟩
  have e : ((cfgM m hO).win 1).index t = ![0, (i 1).val / 256, 0] := (index_out (grid0.coords t)).trans (by rw [ht])
  rw [e]
  match a with
  | ⟨0, _⟩ => show 0 * 1 ≤ (i 0).val ∧ (i 0).val < 0 * 1 + 1; omega
  | ⟨1, _⟩ => show (i 1).val / 256 * 256 ≤ (i 1).val ∧ (i 1).val < (i 1).val / 256 * 256 + 256; omega
  | ⟨2, _⟩ => show 0 * 2048 ≤ (i 2).val ∧ (i 2).val < 0 * 2048 + 2048; omega

/-- The result's array after the last point is the layer. -/
theorem final_eq (hw : (word m 0).toNat < 24) (c : Dev nD) :
    (dats m hO 0 c).arrAt 1 (cfgM m hO).N = layerAt (m ((c.tc : Thread nD τ).loc main_arg0)) (word m 0) := by
  refine (dats m hO 0 c).arrAt_eq_of_emb 1 _ (fun t _ (y : S1x256x2048.Idx) => ?_) (covered m hO)
  · rw [after0_1, written]
    blk_simp [iblk]
    refine (congrFun (V_main_arg0 m c) _).trans (layerAt_apply _ _ hw _ _ ?_ ?_ ?_).symm
    · refine (in_at m hO t y 0).trans ?_
      have : (y 0).val < 1 := (y 0).isLt
      show (word m 0).toNat * 1 + (y 0).val = _
      omega
    · exact (in_at m hO t y 1).trans (out_at m hO t y 1).symm
    · exact (in_at m hO t y 2).trans (out_at m hO t y 2).symm

/-- At an index below 24 the kernel's result is that layer of the memory, and its arguments end unchanged. -/
theorem run (hw : (word m 0).toNat < 24) :
    θ_run defs (onTc (τ := τ) (main (F := F))) ⟨m, fun _ => 0, g⟩ fun r => ∀ c : Dev nD,
      r.2.mem ((c.tc : Thread nD τ).loc main_v1) = layerAt (m ((c.tc : Thread nD τ).loc main_arg0)) (word m 0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (run_main m g (ok_of_range m hw)) (unchanged m g (ok_of_range m hw))) fun _ h c =>
    ⟨((h.1 c).1 1).trans (final_eq m (ok_of_range m hw) hw c), h.2 c⟩

end Cert.KernelIdeal.Layer

end
-- ==== Proof.ReferenceIdealValue.lean ====
/-
  The reference over ideal values: what its run leaves. The text is that of `ReferenceValue.lean`, at the other program.

  The reference is a straight line of host operations. Each buffer that a claim names is read off the line here: the arguments
  are never written, and the result is the line's composed term of them, which `Layer.lean` proves to be the layer.
-/
module

public import proofs.«01_k».proof.Proof.Layer
public import proofs.«01_k».proof.Proof.Gen.ReferenceIdeal
public import Idealize.ShloMosaic.Lib.Claim
public import Idealize.ShloMosaic.Lib.StableHlo.RunRead
public import Idealize.ShloMosaic.Lib.Quiescent

@[expose] public section

noncomputable section

namespace Cert.ReferenceIdeal.Layer

open Cert.ReferenceIdeal Cert.ReferenceIdeal.Gen Cert.Layer
open Idealize.ShloMosaic Idealize.ShloMosaic.TcCoe Idealize.ShloMosaic.StableHlo Idealize.ShloMosaic.ValueIdx Idealize.SL.Sem

variable {F : FTy → Type} [FloatOps F]

variable (m : (ℓ : Loc nD τ sig) → Buf (Elt F) ℓ) (g : Dev nD → PrngReg)

/-- The reference terminates with its arguments unchanged and every counter at zero. -/
theorem frame : θ_run defs (onTc (τ := τ) (main (F := F))) ⟨m, fun _ => 0, g⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 := by
  refine θ_run_mono (run_hlo defs main (by hlo_seq) (by decide) (by decide) (by simp)
    (by intro _ h; (repeat (cases h with | head => rfl | tail _ h => ?_)); exact nomatch h) m g) fun r h =>
      ⟨fun c => ⟨(h c main_arg0).trans ?_, (h c main_arg1).trans ?_⟩, sem_eq_zero_of_no_sems (by decide) r.2⟩
  · after_reads_simp
  · after_reads_simp

/-- At an index below 24 its result is that layer of the memory. -/
theorem result (hw : ∀ c : Dev nD, (m ((c.tc : Thread nD τ).loc main_arg1) ix0).toNat < 24) :
    θ_run defs (onTc (τ := τ) (main (F := F))) ⟨m, fun _ => 0, g⟩ fun r => ∀ c : Dev nD,
      r.2.mem ((c.tc : Thread nD τ).loc main_v11)
        = layerAt (m ((c.tc : Thread nD τ).loc main_arg0)) (m ((c.tc : Thread nD τ).loc main_arg1) ix0) := by
  refine θ_run_mono (run_hlo defs main (by hlo_seq) (by decide) (by decide) (by simp)
    (by intro _ h; (repeat (cases h with | head => rfl | tail _ h => ?_)); exact nomatch h) m g) fun r h c =>
      (h c main_v11).trans ?_
  after_reads_simp [unaryIndexed_result_read, indexContents_cons, indexContents_empty]
  refine sliced_eq _ _ (hw c) _ (fun k => ?_) _ _ _
  match k with
  | ⟨0, _⟩ => exact wrapped_eq (m ((c.tc : Thread nD τ).loc main_arg1)) (hw c) _
  | ⟨1, _⟩ => rfl
  | ⟨2, _⟩ => rfl

/-- Both in one run. -/
theorem run (hw : ∀ c : Dev nD, (m ((c.tc : Thread nD τ).loc main_arg1) ix0).toNat < 24) :
    θ_run defs (onTc (τ := τ) (main (F := F))) ⟨m, fun _ => 0, g⟩ fun r => ∀ c : Dev nD,
      r.2.mem ((c.tc : Thread nD τ).loc main_v11)
        = layerAt (m ((c.tc : Thread nD τ).loc main_arg0)) (m ((c.tc : Thread nD τ).loc main_arg1) ix0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (result m g hw) (frame m g)) fun _ h c => ⟨h.1 c, h.2.1 c⟩

end Cert.ReferenceIdeal.Layer

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Reference
public import proofs.«01_k».proof.Proof.Gen.ReferenceIdeal
public import proofs.«01_k».proof.Proof.Gen.Pre_layer_in_range
public import proofs.«01_k».proof.Proof.KernelValue
public import proofs.«01_k».proof.Proof.KernelIdealValue
public import proofs.«01_k».proof.Proof.ReferenceValue
public import proofs.«01_k».proof.Proof.ReferenceIdealValue
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem Cert.Layer

/-! ## The precondition, decoded at each program's arguments -/

/-- Under the precondition the kernel's index is below 24, -/
theorem word_lt (m : (ℓ : Loc Cert.Kernel.nD Cert.Kernel.τ Cert.Kernel.sig) → Buf (Elt Bits) ℓ) (h : Cert.Pre_Kernel m) :
    (Cert.Kernel.Layer.word m 0).toNat < 24 :=
  lt_of_range _ (congrFun (h 0) ValueIdx.ix0)

/-- and so is the idealized kernel's. -/
theorem word_lt_ideal (m : (ℓ : Loc Cert.KernelIdeal.nD Cert.KernelIdeal.τ Cert.KernelIdeal.sig) → Buf (Elt Ideal) ℓ)
    (h : Cert.Pre_KernelIdeal m) : (Cert.KernelIdeal.Layer.word m 0).toNat < 24 :=
  lt_of_range _ (congrFun (h 0) ValueIdx.ix0)

/-! ## The two value claims -/

/-- Over ideal values the kernel's result is the reference's. -/
theorem algebraic : Cert.algebraic_KernelIdeal_ReferenceIdeal := by
  intro m g m' g' hpre hagree
  have hw := word_lt_ideal m hpre
  have hone : ∀ c : Dev Cert.KernelIdeal.nD, c = 0 := fun c => Subsingleton.elim c 0
  refine ⟨_, Cert.KernelIdeal.Layer.run m g hw,
    θ_run_mono (Cert.ReferenceIdeal.Layer.run m' g' fun c => ?_) fun _ h c => ⟨(h c).1.trans ?_, (h c).2⟩⟩
  · obtain rfl := hone c
    rw [(hagree 0).2]
    exact hw
  · obtain rfl := hone c
    rw [(hagree 0).1, (hagree 0).2]

/-- On float words the kernel's result is the reference's, word by word: neither computes, both copy. -/
theorem bitexact : Cert.bitexact_Kernel_Reference := by
  intro m g m' g' hpre hagree
  have hw := word_lt m hpre
  have hone : ∀ c : Dev Cert.Kernel.nD, c = 0 := fun c => Subsingleton.elim c 0
  refine ⟨_, Cert.Kernel.Layer.run m g hw,
    θ_run_mono (Cert.Reference.Layer.run m' g' fun c => ?_) fun _ h c => ⟨(h c).1.trans ?_, (h c).2⟩⟩
  · obtain rfl := hone c
    rw [(hagree 0).2]
    exact hw
  · obtain rfl := hone c
    rw [(hagree 0).1, (hagree 0).2]

/-- Every claim of the certificate. -/
theorem claim : Cert.Claim := ⟨Cert.Kernel.Gen.facts, Cert.KernelIdeal.Gen.facts, Cert.Reference.Gen.facts, Cert.ReferenceIdeal.Gen.facts, Cert.Pre_layer_in_range.Gen.facts,
  fun m g h => Cert.Kernel.Gen.frame m g (Cert.Kernel.Layer.ok_of_range m (word_lt m h)),
  fun m g h => Cert.KernelIdeal.Gen.frame m g (Cert.KernelIdeal.Layer.ok_of_range m (word_lt_ideal m h)),
  fun m g _ => Cert.Reference.Layer.frame m g,
  fun m g _ => Cert.Reference.Layer.frame m g,
  fun m g _ => Cert.ReferenceIdeal.Layer.frame m g,
  fun m g _ => Cert.ReferenceIdeal.Layer.frame m g,
  trivial,
  algebraic, bitexact⟩

end Cert.Proof

end
